-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_electrodes_once [hPre_electrodes_once : Cert.Pre_electrodes_once.Facts] (m : (ℓ : Loc Cert.KernelIdeal.nD Cert.KernelIdeal.τ Cert.KernelIdeal.sig) → Buf (Elt Ideal) ℓ) : Prop :=
  ∀ c : Dev Cert.KernelIdeal.nD,
    (Cert.Pre_electrodes_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_electrodes_once [hPre_electrodes_once : Cert.Pre_electrodes_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_electrodes_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_electrodes_once [hKernelIdeal : Cert.KernelIdeal.Facts] [hPre_electrodes_once : Cert.Pre_electrodes_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_electrodes_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_electrodes_once [hReferenceIdeal : Cert.ReferenceIdeal.Facts] [hPre_electrodes_once : Cert.Pre_electrodes_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_electrodes_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_electrodes_once [hKernelIdeal : Cert.KernelIdeal.Facts] [hReferenceIdeal : Cert.ReferenceIdeal.Facts] [hPre_electrodes_once : Cert.Pre_electrodes_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_electrodes_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_electrodes_once : Cert.Pre_electrodes_once.Facts),
    quiescent_Kernel (hKernel := hKernel)
    ∧ quiescent_KernelIdeal (hKernelIdeal := hKernelIdeal)
    ∧ quiescent_KernelIdeal_pre_electrodes_once (hKernelIdeal := hKernelIdeal) (hPre_electrodes_once := hPre_electrodes_once)
    ∧ quiescent_ReferenceIdeal (hReferenceIdeal := hReferenceIdeal)
    ∧ quiescent_ReferenceIdeal_pre_electrodes_once (hReferenceIdeal := hReferenceIdeal) (hPre_electrodes_once := hPre_electrodes_once)
    ∧ preserves_Kernel_KernelIdeal
    ∧ algebraic_KernelIdeal_ReferenceIdeal_pre_electrodes_once (hKernelIdeal := hKernelIdeal) (hReferenceIdeal := hReferenceIdeal) (hPre_electrodes_once := hPre_electrodes_once)
-- ==== Pre_electrodes_once.lean ====
abbrev S1048576x3 : Shape := ⟨2, ![1048576, 3]⟩
abbrev S1x4 : Shape := ⟨2, ![1, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3 : Shape := ⟨1, ![3]⟩
abbrev S4 : Shape := ⟨1, ![4]⟩
abbrev S7 : Shape := ⟨1, ![7]⟩
abbrev S7x7 : Shape := ⟨2, ![7, 7]⟩
abbrev S7x1 : Shape := ⟨2, ![7, 1]⟩
abbrev S1x7 : Shape := ⟨2, ![1, 7]⟩
abbrev S_ : Shape := ⟨0, ![]⟩

class Facts : Prop where
  concatenates_S3_S4_S7_d0 : Shape.Concatenates [S3, S4] S7 0
  bcast_S7_S7x1_0 : S7.BroadcastsInDim S7x1 (![0] : Fin 1 → Fin S7x1.rank)
  bcast_S7_S1x7_1 : S7.BroadcastsInDim S1x7 (![1] : Fin 1 → Fin S1x7.rank)
  bcast_S7x1_S7x7_0_1 : S7x1.BroadcastsInDim S7x7 (![0, 1] : Fin 2 → Fin S7x7.rank)
  bcast_S1x7_S7x7_0_1 : S1x7.BroadcastsInDim S7x7 (![0, 1] : Fin 2 → Fin S7x7.rank)
  bcast_S_S7x1 : S_.BroadcastsInDim S7x1 (![] : Fin 0 → Fin S7x1.rank)

variable [Facts]

def fn {F : FTy → Type} [FloatOps F] (main_arg0 : FVec F S1048576x3 .f32) (main_arg1 : FVec F S1x4 .f32) (main_arg2 : FVec F S7x90 .f32) (main_arg3 : FVec F S90 .f32) (main_arg4 : FVec F S90x90 .f32) (main_arg5 : FVec F S90 .f32) (main_arg6 : FVec F S90x1 .f32) (main_arg7 : FVec F S1 .f32) (main_arg8 : IVec S3 32) (main_arg9 : IVec S4 32) : IVec S7x7 1 :=
  let main_v0 : IVec S7 32 := (fun a b => concatenate S7 0 [⟨S3, a⟩, ⟨S4, b⟩] concatenates_S3_S4_S7_d0) main_arg8 main_arg9
  let main_v1 : IVec S7x7 32 := iotaInDim S7x7 32 0
  let main_v2 : IVec S7x7 32 := iotaInDim S7x7 32 1
  let main_v3 : IVec S7x1 32 := broadcastInDim S7x1 ![0] bcast_S7_S7x1_0 main_v0
  let main_v4 : IVec S1x7 32 := broadcastInDim S1x7 ![1] bcast_S7_S1x7_1 main_v0
  let main_v5 : IVec S7x7 32 := broadcastInDim S7x7 ![0, 1] bcast_S7x1_S7x7_0_1 main_v3
  let main_v6 : IVec S7x7 32 := broadcastInDim S7x7 ![0, 1] bcast_S1x7_S7x7_0_1 main_v4
  let main_v7 : IVec S7x7 1 := cmpi .ne main_v5 main_v6
  let main_v8 : IVec S7x7 1 := cmpi .eq main_v1 main_v2
  let main_v9 : IVec S7x7 1 := ori main_v7 main_v8
  let main_v10 : IVec S7x1 32 := broadcastInDim S7x1 ![0] bcast_S7_S7x1_0 main_v0
  let main_c : IVec S_ 32 := constantI S_ 32 0#32
  let main_v11 : IVec S7x1 32 := broadcastInDim S7x1 ![] bcast_S_S7x1 main_c
  let main_v12 : IVec S7x1 1 := cmpi .sge main_v10 main_v11
  let main_v13 : IVec S7x7 1 := broadcastInDim S7x7 ![0, 1] bcast_S7x1_S7x7_0_1 main_v12
  let main_v14 : IVec S7x7 1 := andi main_v9 main_v13
  let main_v15 : IVec S7x1 32 := broadcastInDim S7x1 ![0] bcast_S7_S7x1_0 main_v0
  let main_c_0 : IVec S_ 32 := constantI S_ 32 7#32
  let main_v16 : IVec S7x1 32 := broadcastInDim S7x1 ![] bcast_S_S7x1 main_c_0
  let main_v17 : IVec S7x1 1 := cmpi .slt main_v15 main_v16
  let main_v18 : IVec S7x7 1 := broadcastInDim S7x7 ![0, 1] bcast_S7x1_S7x7_0_1 main_v17
  let main_v19 : IVec S7x7 1 := andi main_v14 main_v18
  main_v19
-- ==== Kernel.lean ====
abbrev S1048576x3 : Shape := ⟨2, ![1048576, 3]⟩
abbrev S1x4 : Shape := ⟨2, ![1, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3 : Shape := ⟨1, ![3]⟩
abbrev S4 : Shape := ⟨1, ![4]⟩
abbrev S_ : Shape := ⟨0, ![]⟩
abbrev S4x1 : Shape := ⟨2, ![4, 1]⟩
abbrev S4x90 : Shape := ⟨2, ![4, 90]⟩
abbrev S3x1 : Shape := ⟨2, ![3, 1]⟩
abbrev S3x90 : Shape := ⟨2, ![3, 90]⟩
abbrev S90x3 : Shape := ⟨2, ![90, 3]⟩
abbrev S3x1048576 : Shape := ⟨2, ![3, 1048576]⟩
abbrev S1x90 : Shape := ⟨2, ![1, 90]⟩
abbrev S1x1 : Shape := ⟨2, ![1, 1]⟩
abbrev S1x1048576 : Shape := ⟨2, ![1, 1048576]⟩
abbrev S1048576x1 : Shape := ⟨2, ![1048576, 1]⟩
abbrev S3x65536 : Shape := ⟨2, ![3, 65536]⟩
abbrev S1x65536 : Shape := ⟨2, ![1, 65536]⟩
abbrev S90x65536 : Shape := ⟨2, ![90, 65536]⟩

abbrev nBuf : Space → Nat
  | .hbm => 43
  | .vmem => 10
  | .smem => 0
  | _ => 0

abbrev bufTy : (tb : Table) → Fin (tcTables nBuf tb) → BufTy
  | .hbm, ⟨0, _⟩ => ⟨S1048576x3, .f32⟩
  | .hbm, ⟨1, _⟩ => ⟨S1x4, .f32⟩
  | .hbm, ⟨2, _⟩ => ⟨S7x90, .f32⟩
  | .hbm, ⟨3, _⟩ => ⟨S90, .f32⟩
  | .hbm, ⟨4, _⟩ => ⟨S90x90, .f32⟩
  | .hbm, ⟨5, _⟩ => ⟨S90, .f32⟩
  | .hbm, ⟨6, _⟩ => ⟨S90x1, .f32⟩
  | .hbm, ⟨7, _⟩ => ⟨S1, .f32⟩
  | .hbm, ⟨8, _⟩ => ⟨S3, .i32⟩
  | .hbm, ⟨9, _⟩ => ⟨S4, .i32⟩
  | .hbm, ⟨10, _⟩ => ⟨S4, .f32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S4x90, .f32⟩
  | .hbm, ⟨20, _⟩ => ⟨S90, .f32⟩
  | .hbm, ⟨21, _⟩ => ⟨S90, .f32⟩
  | .hbm, ⟨22, _⟩ => ⟨S90x1, .f32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S3, .i32⟩
  | .hbm, ⟨30, _⟩ => ⟨S3x1, .i32⟩
  | .hbm, ⟨31, _⟩ => ⟨S3x90, .f32⟩
  | .hbm, ⟨32, _⟩ => ⟨S90x3, .f32⟩
  | .hbm, ⟨33, _⟩ => ⟨S90x3, .bf16⟩
  | .hbm, ⟨34, _⟩ => ⟨S3x1048576, .f32⟩
  | .hbm, ⟨35, _⟩ => ⟨S3x1048576, .bf16⟩
  | .hbm, ⟨36, _⟩ => ⟨S90x90, .f32⟩
  | .hbm, ⟨37, _⟩ => ⟨S90x90, .bf16⟩
  | .hbm, ⟨38, _⟩ => ⟨S90x1, .f32⟩
  | .hbm, ⟨39, _⟩ => ⟨S1x90, .f32⟩
  | .hbm, ⟨40, _⟩ => ⟨S1x1, .f32⟩
  | .hbm, ⟨41, _⟩ => ⟨S1x1048576, .f32⟩
  | .hbm, ⟨42, _⟩ => ⟨S1048576x1, .f32⟩
  | .local _ .vmem, ⟨0, _⟩ => ⟨S3x65536, .bf16⟩
  | .local _ .vmem, ⟨1, _⟩ => ⟨S3x65536, .bf16⟩
  | .local _ .vmem, ⟨2, _⟩ => ⟨S90x3, .bf16⟩
  | .local _ .vmem, ⟨3, _⟩ => ⟨S90x1, .f32⟩
  | .local _ .vmem, ⟨4, _⟩ => ⟨S90x90, .bf16⟩
  | .local _ .vmem, ⟨5, _⟩ => ⟨S90x1, .f32⟩
  | .local _ .vmem, ⟨6, _⟩ => ⟨S1x90, .f32⟩
  | .local _ .vmem, ⟨7, _⟩ => ⟨S1x1, .f32⟩
  | .local _ .vmem, ⟨8, _⟩ => ⟨S1x65536, .f32⟩
  | .local _ .vmem, ⟨9, _⟩ => ⟨S1x65536, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_c_0 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_1 : Ref sig .tc := ⟨.hbm, 23, rfl⟩
abbrev main_call0_v11 : Ref sig .tc := ⟨.hbm, 24, rfl⟩
abbrev main_call0_v12 : Ref sig .tc := ⟨.hbm, 25, rfl⟩
abbrev main_call0_c_2 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_v0 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S90x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S90x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S90x90 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S90x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x65536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1048576x3 : Shape := ⟨2, ![1048576, 3]⟩
abbrev S1x4 : Shape := ⟨2, ![1, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3 : Shape := ⟨1, ![3]⟩
abbrev S4 : Shape := ⟨1, ![4]⟩
abbrev S_ : Shape := ⟨0, ![]⟩
abbrev S1048576x7 : Shape := ⟨2, ![1048576, 7]⟩
abbrev S3x1 : Shape := ⟨2, ![3, 1]⟩
abbrev S1048576x4 : Shape := ⟨2, ![1048576, 4]⟩
abbrev S4x1 : Shape := ⟨2, ![4, 1]⟩
abbrev S1048576x90 : Shape := ⟨2, ![1048576, 90]⟩
abbrev S1x90 : Shape := ⟨2, ![1, 90]⟩
abbrev S1048576x1 : Shape := ⟨2, ![1048576, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S1048576x3, .f32⟩
  | .hbm, ⟨1, _⟩ => ⟨S1x4, .f32⟩
  | .hbm, ⟨2, _⟩ => ⟨S7x90, .f32⟩
  | .hbm, ⟨3, _⟩ => ⟨S90, .f32⟩
  | .hbm, ⟨4, _⟩ => ⟨S90x90, .f32⟩
  | .hbm, ⟨5, _⟩ => ⟨S90, .f32⟩
  | .hbm, ⟨6, _⟩ => ⟨S90x1, .f32⟩
  | .hbm, ⟨7, _⟩ => ⟨S1, .f32⟩
  | .hbm, ⟨8, _⟩ => ⟨S3, .i32⟩
  | .hbm, ⟨9, _⟩ => ⟨S4, .i32⟩
  | .hbm, ⟨10, _⟩ => ⟨S_, .f32⟩
  | .hbm, ⟨11, _⟩ => ⟨S1048576x7, .f32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S1048576x7, .f32⟩
  | .hbm, ⟨21, _⟩ => ⟨S1048576x4, .f32⟩
  | .hbm, ⟨22, _⟩ => ⟨S_, .i32⟩
  | .hbm, ⟨23, _⟩ => ⟨S4, .i32⟩
  | .hbm, ⟨24, _⟩ => ⟨S4, .i1⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S4x1, .i32⟩
  | .hbm, ⟨30, _⟩ => ⟨S1048576x7, .f32⟩
  | .hbm, ⟨31, _⟩ => ⟨S1048576x90, .f32⟩
  | .hbm, ⟨32, _⟩ => ⟨S1x90, .f32⟩
  | .hbm, ⟨33, _⟩ => ⟨S1048576x90, .f32⟩
  | .hbm, ⟨34, _⟩ => ⟨S1048576x90, .f32⟩
  | .hbm, ⟨35, _⟩ => ⟨S1048576x90, .f32⟩
  | .hbm, ⟨36, _⟩ => ⟨S1048576x90, .f32⟩
  | .hbm, ⟨37, _⟩ => ⟨S1x90, .f32⟩
  | .hbm, ⟨38, _⟩ => ⟨S1048576x90, .f32⟩
  | .hbm, ⟨39, _⟩ => ⟨S1048576x90, .f32⟩
  | .hbm, ⟨40, _⟩ => ⟨S1048576x90, .f32⟩
  | .hbm, ⟨41, _⟩ => ⟨S1048576x1, .f32⟩
  | .hbm, ⟨42, _⟩ => ⟨S1x1, .f32⟩
  | .hbm, ⟨43, _⟩ => ⟨S1048576x1, .f32⟩
  | .hbm, ⟨44, _⟩ => ⟨S1048576x1, .f32⟩
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Electrodes.lean ====
/-
  What the precondition says of the index words: the three data words and the four control words are seven electrode
  numbers, each in range and no two of them equal.
-/
module

public import proofs.«01_k».proof.Pre_electrodes_once
public import Idealize.ShloMosaic.Lib.Pointwise
public import Idealize.ShloMosaic.Lib.WordCmp

@[expose] public section

set_option maxRecDepth 16384

namespace Cert.Electrodes

open Idealize.ShloMosaic
open Cert.Pre_electrodes_once

variable {F : FTy → Type} [FloatOps F]

/-- The shape relations that the predicate's operations take. -/
theorem facts : Cert.Pre_electrodes_once.Facts := by
  constructor <;> decide

/-- A conjunction of two bits is one only when both are. -/
theorem andi_one {a b : BitVec 1} (h : IntOp.andi a b = 1#1) : a = 1#1 ∧ b = 1#1 := by
  revert a b; decide

/-- A disjunction of two bits is one only when one of them is. -/
theorem ori_one {a b : BitVec 1} (h : IntOp.ori a b = 1#1) : a = 1#1 ∨ b = 1#1 := by
  revert a b; decide

/-- The seven index words in one row, data words first. -/
def word (x8 : IVec ⟨1, ![3]⟩ 32) (x9 : IVec ⟨1, ![4]⟩ 32) (i : Fin 7) : BitVec 32 :=
  if h : i.val < 3 then x8 (ix1 ⟨i.val, h⟩) else x9 (ix1 ⟨i.val - 3, by omega⟩)

/-- The predicate read at the pair `(i, j)` of positions. -/
theorem fn_apply [Facts] (x0 : FVec F S1048576x3 .f32) (x1 : FVec F S1x4 .f32) (x2 : FVec F S7x90 .f32) (x3 : FVec F S90 .f32)
    (x4 : FVec F S90x90 .f32) (x5 : FVec F S90 .f32) (x6 : FVec F S90x1 .f32) (x7 : FVec F S1 .f32) (x8 : IVec S3 32)
    (x9 : IVec S4 32) (i j : Fin 7) (h : fn x0 x1 x2 x3 x4 x5 x6 x7 x8 x9 (ix2 i j) = 1#1) :
    (word x8 x9 i ≠ word x8 x9 j ∨ i = j) ∧ (word x8 x9 i).toNat < 7 := by
  unfold fn at h
  pointwise at h
  have hi : (if h : i.val < 3 then x8 (ix1 ⟨i.val, h⟩) else x9 (ix1 ⟨i.val - 3, by omega⟩)) = word x8 x9 i := rfl
  have hj : (if h : j.val < 3 then x8 (ix1 ⟨j.val, h⟩) else x9 (ix1 ⟨j.val - 3, by omega⟩)) = word x8 x9 j := rfl
  rw [hi, hj] at h
  generalize word x8 x9 i = p at h ⊢
  generalize word x8 x9 j = q at h ⊢
  obtain ⟨h, h3⟩ := andi_one h
  obtain ⟨h, h2⟩ := andi_one h
  rw [WordCmp.cmpi_slt_eq, WordCmp.ofBool_decide_eq_one_iff] at h3
  have h7 : (7#32 : BitVec 32).toInt = 7 := by decide
  rw [WordCmp.cmpi_sge_eq, WordCmp.ofBool_decide_eq_one_iff, BitVec.toInt_zero] at h2
  refine ⟨?_, ?_⟩
  · rcases ori_one h with h | h
    · left
      rw [WordCmp.cmpi_ne_eq, WordCmp.ofBool_decide_eq_one_iff] at h
      exact h
    · right
      rw [WordCmp.cmpi_eq_ofNat_eq_one_iff (by omega) (by omega)] at h
      exact Fin.ext h
  · have := BitVec.toInt_eq_toNat_cond p
    split at this <;> omega

/-- The precondition's meaning: there are three data electrodes `d` and four control electrodes `c`, all seven different,
    and the index words are their numbers. -/
theorem meaning [Facts] (x0 : FVec F S1048576x3 .f32) (x1 : FVec F S1x4 .f32) (x2 : FVec F S7x90 .f32) (x3 : FVec F S90 .f32)
    (x4 : FVec F S90x90 .f32) (x5 : FVec F S90 .f32) (x6 : FVec F S90x1 .f32) (x7 : FVec F S1 .f32) (x8 : IVec S3 32)
    (x9 : IVec S4 32) (h : fn x0 x1 x2 x3 x4 x5 x6 x7 x8 x9 = fun _ => 1#1) :
    ∃ (d : Fin 3 → Fin 7) (c : Fin 4 → Fin 7), Function.Injective (Sum.elim d c)
      ∧ (∀ k : Fin 3, x8 (ix1 k) = BitVec.ofNat 32 (d k).val) ∧ ∀ k : Fin 4, x9 (ix1 k) = BitVec.ofNat 32 (c k).val := by
  have hp : ∀ i j : Fin 7, (word x8 x9 i ≠ word x8 x9 j ∨ i = j) ∧ (word x8 x9 i).toNat < 7 := fun i j =>
    fn_apply x0 x1 x2 x3 x4 x5 x6 x7 x8 x9 i j (congrFun h (ix2 i j))
  let pos : Fin 3 ⊕ Fin 4 → Fin 7 := Sum.elim (fun k => ⟨k.val, by omega⟩) fun k => ⟨3 + k.val, by omega⟩
  let e : Fin 7 → Fin 7 := fun i => ⟨(word x8 x9 i).toNat, (hp i i).2⟩
  have hpos : Function.Injective pos := by decide
  have he : Function.Injective e := fun i j hij =>
    (hp i j).1.resolve_left fun hne => hne (by
      have h : (e i).val = (e j).val := by rw [hij]
      exact BitVec.eq_of_toNat_eq h)
  refine ⟨fun k => e (pos (.inl k)), fun k => e (pos (.inr k)), ?_, fun k => ?_, fun k => ?_⟩
  · have hs : Sum.elim (fun k => e (pos (.inl k))) (fun k => e (pos (.inr k))) = e ∘ pos := by
      funext s; cases s <;> rfl
    rw [hs]
    exact he.comp hpos
  · have hw : word x8 x9 (pos (.inl k)) = x8 (ix1 k) := dif_pos k.isLt
    show _ = BitVec.ofNat 32 (word x8 x9 (pos (.inl k))).toNat
    rw [hw, BitVec.ofNat_toNat, BitVec.setWidth_eq]
  · have hw : word x8 x9 (pos (.inr k)) = x9 (ix1 k) :=
      (dif_neg (by show ¬ 3 + k.val < 3; omega)).trans
        (congrArg (fun t => x9 (ix1 t)) (Fin.ext (by show 3 + k.val - 3 = k.val; omega)))
    show _ = BitVec.ofNat 32 (word x8 x9 (pos (.inr k))).toNat
    rw [hw, BitVec.ofNat_toNat, BitVec.setWidth_eq]

end Cert.Electrodes

end
-- ==== Proof.Columns.lean ====
/-
  Writing whole columns of a matrix: the scatter that `zeros.at[:, cols].set(u)` lowers to. Its `K` index words name
  `K` columns of an `[A, N]` matrix and its update is an `[A, K]` matrix; update entry `(a, k)` lands at row `a` of the
  column that word `k` names. Nothing here names a program.
-/
module

public import Idealize.ShloMosaic.Lib.Routing.OpsSet

@[expose] public section

namespace Cert.Columns

open Idealize.ShloMosaic Idealize.ShloMosaic.ValueIdx Idealize.ShloMosaic.Routing

/-- Update entry `(a, k)` lands at `(r, e)` exactly when `a` is the row `r` and index word `k`, read signed, is the
    column `e`. -/
theorem lands {A N K : Nat} (d : ScatterDims (shape2 A N) (shape2 K 1) (shape2 A K)) (huw : d.updateWindowDims = [0])
    (hiw : d.insertedWindowDims = [1]) (hsd : d.scatterDimsToOperandDims = [1]) (hivd : d.indexVectorDim = 1)
    (idx : IVec (shape2 K 1) 32) (a : Fin A) (k : Fin K) (r : Fin A) (e : Fin N) :
    d.resultIdx? (ix2 a k) idx = some (ix2 r e) ↔ a = r ∧ (idx (ix2 k (0 : Fin 1))).toInt = (e.val : Int) := by
  have hm : (1 : Fin 2) ∈ d.scatterDimsToOperandDims := by rw [hsd]; exact List.mem_singleton.2 rfl
  have pick : ∀ (l : List (Fin 2)) (n : ℕ) (h : n < l.length) (m : Fin 2), l = [m] → l[n]'h = m := by
    intro l n h m hl
    subst hl
    obtain rfl : n = 0 := by simpa using h
    rfl
  have hkept : d.sKept = [0] := by
    show (shape2 A N).kept d.insertedWindowDims = _
    rw [hiw]
    rfl
  have hscat : d.uScatter = [1] := by
    show (shape2 A K).kept d.updateWindowDims = _
    rw [huw]
    rfl
  have hwin1 : d.window (ix2 a k) 1 = 0 := by
    unfold ScatterDims.window
    rw [dif_neg fun h => (of_decide_eq_true (List.mem_filter.1 h).2) (by rw [hiw]; exact List.mem_singleton.2 rfl)]
  have hwin0 : d.window (ix2 a k) 0 = a.val := by
    unfold ScatterDims.window
    rw [dif_pos (by rw [hkept]; exact List.mem_singleton.2 rfl)]
    rw [pick _ _ _ 0 huw]
  have hstart0 : d.start (ix2 a k) idx 0 = 0 := by
    unfold ScatterDims.start
    rw [dif_neg fun h => by rw [hsd] at h; exact absurd (List.mem_singleton.1 h) (by decide : (0 : Fin 2) ≠ 1)]
  have hsi : d.siIdx (ix2 a k) ⟨d.scatterDimsToOperandDims.idxOf 1, List.idxOf_lt_length_iff.2 hm⟩ = ix2 k (0 : Fin 1) := by
    funext b
    apply Fin.ext
    match b with
    | ⟨0, _⟩ =>
      unfold ScatterDims.siIdx
      rw [dif_neg (by rw [hivd]; exact (by decide : (0 : ℕ) ≠ 1))]
      unfold ScatterDims.siCoord
      simp only [Fin.val_cast]
      rw [pick _ _ _ 1 hscat]
    | ⟨1, _⟩ => exact congrArg Fin.val (Subsingleton.elim (α := Fin 1) _ _)
  have hstart1 : d.start (ix2 a k) idx 1 = (idx (ix2 k (0 : Fin 1))).toInt := by
    unfold ScatterDims.start
    rw [dif_pos hm, hsi]
  rw [resultIdx?_ix2, hstart0, hwin0, hstart1, hwin1, Fin.ext_iff]
  omega

/-- Where index word `k` is the column `e` and no other word is, column `e` of the result is column `k` of the
    update. -/
theorem set_hit {α : Type} {A N K : Nat} (d : ScatterDims (shape2 A N) (shape2 K 1) (shape2 A K))
    (huw : d.updateWindowDims = [0]) (hiw : d.insertedWindowDims = [1]) (hsd : d.scatterDimsToOperandDims = [1])
    (hivd : d.indexVectorDim = 1) (x : (shape2 A N).Idx → α) (idx : IVec (shape2 K 1) 32) (u : (shape2 A K).Idx → α)
    (r : Fin A) (e : Fin N) (k : Fin K) (hk : (idx (ix2 k (0 : Fin 1))).toInt = (e.val : Int))
    (h1 : ∀ k' : Fin K, (idx (ix2 k' (0 : Fin 1))).toInt = (e.val : Int) → k' = k) :
    Host.scatter d (fun _ b => b) x idx u (ix2 r e) = u (ix2 r k) := by
  refine scatter_set_hit d x idx u (ix2 r e) _ (fun j hj => ?_) (ix2 r k) ((lands d huw hiw hsd hivd idx r k r e).2 ⟨rfl, hk⟩)
  obtain ⟨a, k', rfl⟩ : ∃ (a : Fin A) (k' : Fin K), j = ix2 a k' := ⟨j 0, j 1, eq_ix2 j⟩
  obtain ⟨rfl, h⟩ := (lands d huw hiw hsd hivd idx a k' r e).1 hj
  rw [h1 k' h]

/-- A column that no index word names keeps the operand's entries. -/
theorem set_miss {α : Type} {A N K : Nat} (d : ScatterDims (shape2 A N) (shape2 K 1) (shape2 A K))
    (huw : d.updateWindowDims = [0]) (hiw : d.insertedWindowDims = [1]) (hsd : d.scatterDimsToOperandDims = [1])
    (hivd : d.indexVectorDim = 1) (x : (shape2 A N).Idx → α) (idx : IVec (shape2 K 1) 32) (u : (shape2 A K).Idx → α)
    (r : Fin A) (e : Fin N) (h : ∀ k : Fin K, (idx (ix2 k (0 : Fin 1))).toInt ≠ (e.val : Int)) :
    Host.scatter d (fun _ b => b) x idx u (ix2 r e) = x (ix2 r e) := by
  refine scatter_set_miss d x idx u (ix2 r e) fun j hj => ?_
  obtain ⟨a, k, rfl⟩ : ∃ (a : Fin A) (k : Fin K), j = ix2 a k := ⟨j 0, j 1, eq_ix2 j⟩
  exact h k ((lands d huw hiw hsd hivd idx a k r e).1 hj).2

end Cert.Columns

end
-- ==== Proof.Net.lean ====
/-
  The network, as plain mathematics over the extended reals: three rows of data and four rows of control voltages enter
  the seven electrodes that `d` and `c` name, each electrode once; then two layers of ninety units with `tanh` and one
  linear output. Nothing here names a program.
-/
module

public import Idealize.ShloMosaic.Lib.Pointwise

@[expose] public section

noncomputable section

namespace Cert.Net

open Idealize.ShloMosaic

/-- The first layer at batch row `b` and unit `h`: `tanh` of the data's weighted sum plus the controls' weighted sum
    plus the unit's bias. `d` and `c` give the weight row of each data and each control electrode. -/
def layer1 (d : Fin 3 → Fin 7) (c : Fin 4 → Fin 7) (x : FVec Ideal ⟨2, ![1048576, 3]⟩ .f32) (v : FVec Ideal ⟨2, ![1, 4]⟩ .f32)
    (W1 : FVec Ideal ⟨2, ![7, 90]⟩ .f32) (b1 : FVec Ideal ⟨1, ![90]⟩ .f32) (b : Fin 1048576) (h : Fin 90) : EReal :=
  Ideal.tanh ((∑ k : Fin 3, (x (ix2 b k) : EReal) * W1 (ix2 (d k) h))
    + ((∑ k : Fin 4, (v (ix2 (0 : Fin 1) k) : EReal) * W1 (ix2 (c k) h)) + b1 (ix1 h)))

/-- The second layer at one batch row, from the first layer's ninety units `u` of that row. -/
def layer2 (u : Fin 90 → EReal) (W2 : FVec Ideal ⟨2, ![90, 90]⟩ .f32) (b2 : FVec Ideal ⟨1, ![90]⟩ .f32) (h : Fin 90) : EReal :=
  Ideal.tanh ((∑ k : Fin 90, u k * W2 (ix2 k h)) + b2 (ix1 h))

/-- The output at one batch row, from the second layer's ninety units `u` of that row. -/
def layer3 (u : Fin 90 → EReal) (W3 : FVec Ideal ⟨2, ![90, 1]⟩ .f32) (b3 : FVec Ideal ⟨1, ![1]⟩ .f32) : EReal :=
  (∑ k : Fin 90, u k * W3 (ix2 k (0 : Fin 1))) + b3 (ix1 (0 : Fin 1))

/-- The whole network at batch row `b`. -/
def out (d : Fin 3 → Fin 7) (c : Fin 4 → Fin 7) (x : FVec Ideal ⟨2, ![1048576, 3]⟩ .f32) (v : FVec Ideal ⟨2, ![1, 4]⟩ .f32)
    (W1 : FVec Ideal ⟨2, ![7, 90]⟩ .f32) (b1 : FVec Ideal ⟨1, ![90]⟩ .f32) (W2 : FVec Ideal ⟨2, ![90, 90]⟩ .f32)
    (b2 : FVec Ideal ⟨1, ![90]⟩ .f32) (W3 : FVec Ideal ⟨2, ![90, 1]⟩ .f32) (b3 : FVec Ideal ⟨1, ![1]⟩ .f32)
    (b : Fin 1048576) : EReal :=
  layer3 (layer2 (layer1 d c x v W1 b1 b) W2 b2) W3 b3

/-- The three data electrodes and the four control electrodes, taken together, are all seven: so a sum over the seven
    electrodes is the data's sum plus the controls' sum. -/
theorem sum_electrodes (d : Fin 3 → Fin 7) (c : Fin 4 → Fin 7) (hinj : Function.Injective (Sum.elim d c)) (f : Fin 7 → EReal) :
    ∑ e : Fin 7, f e = (∑ k : Fin 3, f (d k)) + ∑ k : Fin 4, f (c k) := by
  have hb : Function.Bijective (Sum.elim d c) :=
    (Fintype.bijective_iff_injective_and_card _).2 ⟨hinj, by decide⟩
  rw [← Equiv.sum_comp (Equiv.ofBijective _ hb) f, Fintype.sum_sum_type]
  rfl

/-- An electrode row that holds the data at the data electrodes and the control voltages at the control electrodes,
    times the weights, plus the bias: the data's weighted sum plus the controls' weighted sum plus the bias. -/
theorem merged_sum (d : Fin 3 → Fin 7) (c : Fin 4 → Fin 7) (hinj : Function.Injective (Sum.elim d c))
    (M W : Fin 7 → EReal) (x : Fin 3 → EReal) (v : Fin 4 → EReal) (β : EReal)
    (hd : ∀ k, M (d k) = x k) (hc : ∀ k, M (c k) = v k) :
    (∑ e : Fin 7, M e * W e) + β = (∑ k : Fin 3, x k * W (d k)) + ((∑ k : Fin 4, v k * W (c k)) + β) := by
  rw [sum_electrodes d c hinj, add_assoc]
  simp only [hd, hc]

end Cert.Net

end
-- ==== Proof.Reference.lean ====
/-
  What the reference computes: its value at batch row `b` is the network's output there, when the index words are the
  numbers of seven different electrodes.
-/
module

public import proofs.«01_k».proof.Proof.Gen.ReferenceIdeal.Read
public import proofs.«01_k».proof.Proof.Columns
public import proofs.«01_k».proof.Proof.Net
public import Idealize.ShloMosaic.Lib.WordCmp

@[expose] public section

set_option maxRecDepth 16384

noncomputable section

namespace Cert.ReferenceSide

open Idealize.ShloMosaic Idealize.ShloMosaic.TcCoe
open Cert.ReferenceIdeal Cert.ReferenceIdeal.Gen Cert.ReferenceIdeal.Read

variable {x0 : FVec Ideal S1048576x3 .f32} {x1 : FVec Ideal S1x4 .f32} {x2 : FVec Ideal S7x90 .f32} {x3 : FVec Ideal S90 .f32}
  {x4 : FVec Ideal S90x90 .f32} {x5 : FVec Ideal S90 .f32} {x6 : FVec Ideal S90x1 .f32} {x7 : FVec Ideal S1 .f32}
  {x8 : IVec S3 32} {x9 : IVec S4 32} {d : Fin 3 → Fin 7} {c : Fin 4 → Fin 7}

/-- Data word `k`, wrapped, is the number of the data electrode `d k`. -/
theorem data_word (h8 : ∀ k : Fin 3, x8 (ix1 k) = BitVec.ofNat 32 (d k).val) (k : Fin 3) :
    val_main_v6 (F := Ideal) x8 (ix2 k (0 : Fin 1)) = BitVec.ofNat 32 (d k).val := by
  pointwise [val_main_v6, val_main_v5, val_main_v4, val_main_v3, val_main_v2, val_main_v1, val_main_c, val_main_c_0]
  rw [h8 k, Routing.wrap_of_lt _ _ (by rw [BitVec.toNat_ofNat]; omega)]

/-- Control word `k`, wrapped, is the number of the control electrode `c k`. -/
theorem control_word (h9 : ∀ k : Fin 4, x9 (ix1 k) = BitVec.ofNat 32 (c k).val) (k : Fin 4) :
    val_main_v14 (F := Ideal) x9 (ix2 k (0 : Fin 1)) = BitVec.ofNat 32 (c k).val := by
  pointwise [val_main_v14, val_main_v13, val_main_v12, val_main_v11, val_main_v10, val_main_v9, val_main_c_1, val_main_c_2]
  rw [h9 k, Routing.wrap_of_lt _ _ (by rw [BitVec.toNat_ofNat]; omega)]

/-- An electrode number read signed is itself. -/
theorem toInt_electrode (e : Fin 7) : (BitVec.ofNat 32 e.val).toInt = (e.val : Int) := by
  revert e; decide

/-- The merged row holds data entry `k` at the data electrode `d k`. -/
theorem merged_data (hinj : Function.Injective (Sum.elim d c)) (h8 : ∀ k : Fin 3, x8 (ix1 k) = BitVec.ofNat 32 (d k).val)
    (h9 : ∀ k : Fin 4, x9 (ix1 k) = BitVec.ofNat 32 (c k).val) (b : Fin 1048576) (k : Fin 3) :
    val_main_v15 (F := Ideal) x0 x1 x8 x9 (ix2 b (d k)) = x0 (ix2 b k) := by
  have hw9 : ∀ k' : Fin 4, (val_main_v14 (F := Ideal) x9 (ix2 k' (0 : Fin 1))).toInt = ((c k').val : Int) := fun k' => by
    rw [control_word h9, toInt_electrode]
  have hw8 : ∀ k' : Fin 3, (val_main_v6 (F := Ideal) x8 (ix2 k' (0 : Fin 1))).toInt = ((d k').val : Int) := fun k' => by
    rw [data_word h8, toInt_electrode]
  refine (Columns.set_miss scatter_S1048576x7_S4x1_S1048576x4_0_1_1_1 rfl rfl rfl rfl _ _ _ b (d k) fun k' h => ?_).trans
    (Columns.set_hit scatter_S1048576x7_S3x1_S1048576x3_0_1_1_1 rfl rfl rfl rfl _ _ _ b (d k) k (hw8 k) fun k' h => ?_)
  · have e : c k' = d k := Fin.ext (by have := (hw9 k').symm.trans h; omega)
    exact absurd (hinj (a₁ := .inr k') (a₂ := .inl k) e) (by simp)
  · have e : d k' = d k := Fin.ext (by have := (hw8 k').symm.trans h; omega)
    exact Sum.inl_injective (hinj (a₁ := .inl k') (a₂ := .inl k) e)

/-- The merged row holds control voltage `k` at the control electrode `c k`. -/
theorem merged_control (hinj : Function.Injective (Sum.elim d c)) (h9 : ∀ k : Fin 4, x9 (ix1 k) = BitVec.ofNat 32 (c k).val)
    (b : Fin 1048576) (k : Fin 4) :
    val_main_v15 (F := Ideal) x0 x1 x8 x9 (ix2 b (c k)) = x1 (ix2 (0 : Fin 1) k) := by
  have hw9 : ∀ k' : Fin 4, (val_main_v14 (F := Ideal) x9 (ix2 k' (0 : Fin 1))).toInt = ((c k').val : Int) := fun k' => by
    rw [control_word h9, toInt_electrode]
  refine (Columns.set_hit scatter_S1048576x7_S4x1_S1048576x4_0_1_1_1 rfl rfl rfl rfl _ _ _ b (c k) k (hw9 k) fun k' h => ?_).trans ?_
  · have e : c k' = c k := Fin.ext (by have := (hw9 k').symm.trans h; omega)
    exact Sum.inr_injective (hinj (a₁ := .inr k') (a₂ := .inr k) e)
  · show val_main_v8 (F := Ideal) x1 (ix2 b k) = _
    pointwise [val_main_v8]

/-- The reference's first layer is the network's. -/
theorem first (hinj : Function.Injective (Sum.elim d c)) (h8 : ∀ k : Fin 3, x8 (ix1 k) = BitVec.ofNat 32 (d k).val)
    (h9 : ∀ k : Fin 4, x9 (ix1 k) = BitVec.ofNat 32 (c k).val) (b : Fin 1048576) (h : Fin 90) :
    val_main_v20 (F := Ideal) x0 x1 x2 x3 x8 x9 (ix2 b h) = Net.layer1 d c x0 x1 x2 x3 b h := by
  have el : ∀ e : Fin 7, lidx_main_v16 (ix2 b h) e = ix2 b e := fun e => funext fun a => match a with | ⟨0, _⟩ => rfl | ⟨1, _⟩ => rfl
  have er : ∀ e : Fin 7, ridx_main_v16 (ix2 b h) e = ix2 e h := fun e => funext fun a => match a with | ⟨0, _⟩ => rfl | ⟨1, _⟩ => rfl
  have eb : idx_main_v17 (idx_main_v18 (ix2 b h)) = ix1 h := funext fun a => match a with | ⟨0, _⟩ => rfl
  rw [val_main_v20_apply, Ideal.hostUnary_tanh_def, val_main_v19_apply, Ideal.addf_def, val_main_v16_apply, val_main_v18_apply,
    val_main_v17_apply, eb]
  unfold Net.layer1
  refine congrArg Ideal.tanh ?_
  simp only [el, er]
  exact Net.merged_sum d c hinj (fun e => val_main_v15 (F := Ideal) x0 x1 x8 x9 (ix2 b e)) (fun e => x2 (ix2 e h))
    (fun k => x0 (ix2 b k)) (fun k => x1 (ix2 (0 : Fin 1) k)) _ (merged_data hinj h8 h9 b) (merged_control hinj h9 b)

/-- The reference's second layer is the network's, from its own first layer. -/
theorem second (b : Fin 1048576) (h : Fin 90) :
    val_main_v25 (F := Ideal) x0 x1 x2 x3 x4 x5 x8 x9 (ix2 b h)
      = Net.layer2 (fun k => val_main_v20 (F := Ideal) x0 x1 x2 x3 x8 x9 (ix2 b k)) x4 x5 h := by
  have el : ∀ k : Fin 90, lidx_main_v21 (ix2 b h) k = ix2 b k := fun k => funext fun a => match a with | ⟨0, _⟩ => rfl | ⟨1, _⟩ => rfl
  have er : ∀ k : Fin 90, ridx_main_v21 (ix2 b h) k = ix2 k h := fun k => funext fun a => match a with | ⟨0, _⟩ => rfl | ⟨1, _⟩ => rfl
  have eb : idx_main_v22 (idx_main_v23 (ix2 b h)) = ix1 h := funext fun a => match a with | ⟨0, _⟩ => rfl
  rw [val_main_v25_apply, Ideal.hostUnary_tanh_def, val_main_v24_apply, Ideal.addf_def, val_main_v21_apply, val_main_v23_apply,
    val_main_v22_apply, eb]
  unfold Net.layer2
  simp only [el, er]

/-- The reference's result is the network's output layer, from its own second layer. -/
theorem third (b : Fin 1048576) :
    val_main_v29 (F := Ideal) x0 x1 x2 x3 x4 x5 x6 x7 x8 x9 (ix2 b (0 : Fin 1))
      = Net.layer3 (fun k => val_main_v25 (F := Ideal) x0 x1 x2 x3 x4 x5 x8 x9 (ix2 b k)) x6 x7 := by
  have el : ∀ k : Fin 90, lidx_main_v26 (ix2 b (0 : Fin 1)) k = ix2 b k := fun k =>
    funext fun a => match a with | ⟨0, _⟩ => rfl | ⟨1, _⟩ => rfl
  have er : ∀ k : Fin 90, ridx_main_v26 (ix2 b (0 : Fin 1)) k = ix2 k (0 : Fin 1) := fun k =>
    funext fun a => match a with | ⟨0, _⟩ => rfl | ⟨1, _⟩ => rfl
  have eb : idx_main_v27 (idx_main_v28 (ix2 b (0 : Fin 1))) = ix1 (0 : Fin 1) := funext fun a => match a with | ⟨0, _⟩ => rfl
  rw [val_main_v29_apply, Ideal.addf_def, val_main_v26_apply, val_main_v28_apply, val_main_v27_apply, eb]
  unfold Net.layer3
  simp only [el, er]

/-- The reference's result at batch row `b` is the network's output there. -/
theorem result (hinj : Function.Injective (Sum.elim d c)) (h8 : ∀ k : Fin 3, x8 (ix1 k) = BitVec.ofNat 32 (d k).val)
    (h9 : ∀ k : Fin 4, x9 (ix1 k) = BitVec.ofNat 32 (c k).val) (b : Fin 1048576) :
    val_main_v29 (F := Ideal) x0 x1 x2 x3 x4 x5 x6 x7 x8 x9 (ix2 b (0 : Fin 1)) = Net.out d c x0 x1 x2 x3 x4 x5 x6 x7 b := by
  rw [third, funext (second b), funext (first hinj h8 h9 b)]
  rfl

end Cert.ReferenceSide

end
-- ==== Proof.Entry.lean ====
/-
  What the kernel's arrays hold when its grid starts: the operations before the launch, composed, and read at an index
  from the arguments.
-/
module

public import proofs.«01_k».proof.Proof.Gen.KernelIdeal.Frame
public import proofs.«01_k».proof.Proof.Net
public import Idealize.ShloMosaic.Lib.Claim
public import Idealize.ShloMosaic.Lib.Routing.Ops
public import Idealize.ShloMosaic.Lib.Routing.OpsPair

@[expose] public section

set_option maxRecDepth 16384

noncomputable section

namespace Cert.Entry

open Idealize.ShloMosaic Idealize.ShloMosaic.TcCoe Idealize.SL.Sem
open Cert.KernelIdeal Cert.KernelIdeal.Gen

/-! ## The operations before the launch, composed -/

/-- The three data words, wrapped into range and stood in a column. -/
def dataWords (x8 : IVec S3 32) : IVec S3x1 32 :=
  broadcastInDim S3x1 ![0] bcast_S3_S3x1_0 (select (cmpi .slt x8 (broadcastInDim S3 ![] bcast_S_S3 (constantI S_ 32 0#32)))
    (addi x8 (broadcastInDim S3 ![] bcast_S_S3 (constantI S_ 32 7#32))) x8)

/-- The four control words, wrapped into range and stood in a column. -/
def controlWords (x9 : IVec S4 32) : IVec S4x1 32 :=
  broadcastInDim S4x1 ![0] bcast_S4_S4x1_0 (select (cmpi .slt x9 (broadcastInDim S4 ![] bcast_S_S4 (constantI S_ 32 0#32)))
    (addi x9 (broadcastInDim S4 ![] bcast_S_S4 (constantI S_ 32 7#32))) x9)

/-- The data, transposed. -/
def dataArr (x0 : FVec Ideal S1048576x3 .f32) : FVec Ideal S3x1048576 .bf16 :=
  truncf .bf16 (transpose S3x1048576 [1, 0] x0 transposes_S1048576x3_S3x1048576_1_0) bitsLt_bf16_f32

/-- The first layer's weight rows of the data electrodes, transposed. -/
def weights1Arr (x2 : FVec Ideal S7x90 .f32) (x8 : IVec S3 32) : FVec Ideal S90x3 .bf16 :=
  truncf .bf16 (transpose S90x3 [1, 0] (Host.gather gather_S7x90_S3x1_S3x90_1_0_n_n_0_1_190 x2 (dataWords x8))
    transposes_S3x90_S90x3_1_0) bitsLt_bf16_f32

/-- The control voltages times the first layer's weight rows of the control electrodes, plus the bias, in a column. -/
def bias1Arr (x1 : FVec Ideal S1x4 .f32) (x2 : FVec Ideal S7x90 .f32) (x3 : FVec Ideal S90 .f32) (x9 : IVec S4 32) :
    FVec Ideal S90x1 .f32 :=
  shapeCast S90x1 (addf (Host.dotGeneral dot_S4_S4x90_S90_0_0_n_1_n_n none (shapeCast S4 x1 shapeCasts_S1x4_S4)
    (Host.gather gather_S7x90_S4x1_S4x90_1_0_n_n_0_1_190 x2 (controlWords x9))) x3) shapeCasts_S90_S90x1

/-- The second layer's weights, transposed. -/
def weights2Arr (x4 : FVec Ideal S90x90 .f32) : FVec Ideal S90x90 .bf16 :=
  truncf .bf16 (transpose S90x90 [1, 0] x4 transposes_S90x90_S90x90_1_0) bitsLt_bf16_f32

/-! ## The same read at an index -/

/-- Data entry `(l, b)` is argument entry `(b, l)`. -/
theorem dataArr_apply (x0 : FVec Ideal S1048576x3 .f32) (l : Fin 3) (b : Fin 1048576) : dataArr x0 (ix2 l b) = x0 (ix2 b l) := by
  pointwise [dataArr]

/-- Data word `k` is the number of the data electrode `d k`. -/
theorem dataWords_apply {x8 : IVec S3 32} {d : Fin 3 → Fin 7} (h8 : ∀ k : Fin 3, x8 (ix1 k) = BitVec.ofNat 32 (d k).val) (k : Fin 3) :
    dataWords x8 (ix2 k (0 : Fin 1)) = BitVec.ofNat 32 (d k).val := by
  pointwise [dataWords]
  rw [h8 k, Routing.wrap_of_lt _ _ (by rw [BitVec.toNat_ofNat]; omega)]

/-- Control word `k` is the number of the control electrode `c k`. -/
theorem controlWords_apply {x9 : IVec S4 32} {c : Fin 4 → Fin 7} (h9 : ∀ k : Fin 4, x9 (ix1 k) = BitVec.ofNat 32 (c k).val) (k : Fin 4) :
    controlWords x9 (ix2 k (0 : Fin 1)) = BitVec.ofNat 32 (c k).val := by
  pointwise [controlWords]
  rw [h9 k, Routing.wrap_of_lt _ _ (by rw [BitVec.toNat_ofNat]; omega)]

/-- Entry `(h, l)` of the staged first weights is the argument's at the data electrode `d l` and unit `h`. -/
theorem weights1Arr_apply (x2 : FVec Ideal S7x90 .f32) {x8 : IVec S3 32} {d : Fin 3 → Fin 7}
    (h8 : ∀ k : Fin 3, x8 (ix1 k) = BitVec.ofNat 32 (d k).val) (h : Fin 90) (l : Fin 3) :
    weights1Arr x2 x8 (ix2 h l) = x2 (ix2 (d l) h) := by
  pointwise [weights1Arr]
  exact Routing.gather_row gather_S7x90_S3x1_S3x90_1_0_n_n_0_1_190 rfl rfl rfl rfl rfl x2 (dataWords x8) l h (d l)
    (dataWords_apply h8 l) (by decide)

/-- Entry `h` of the staged first bias: the controls' weighted sum plus the bias. -/
theorem bias1Arr_apply (x1 : FVec Ideal S1x4 .f32) (x2 : FVec Ideal S7x90 .f32) (x3 : FVec Ideal S90 .f32) {x9 : IVec S4 32}
    {c : Fin 4 → Fin 7} (h9 : ∀ k : Fin 4, x9 (ix1 k) = BitVec.ofNat 32 (c k).val) (h : Fin 90) :
    bias1Arr x1 x2 x3 x9 (ix2 h (0 : Fin 1)) = (∑ k : Fin 4, (x1 (ix2 (0 : Fin 1) k) : EReal) * x2 (ix2 (c k) h)) + x3 (ix1 h) := by
  have hg : ∀ k : Fin 4, Host.gather gather_S7x90_S4x1_S4x90_1_0_n_n_0_1_190 x2 (controlWords x9) (ix2 k h) = x2 (ix2 (c k) h) := fun k =>
    Routing.gather_row gather_S7x90_S4x1_S4x90_1_0_n_n_0_1_190 rfl rfl rfl rfl rfl x2 (controlWords x9) k h (c k)
      (controlWords_apply h9 k) (by decide)
  pointwise [bias1Arr]
  simp only [hg]

/-- Entry `(k, i)` of the staged second weights is argument entry `(i, k)`. -/
theorem weights2Arr_apply (x4 : FVec Ideal S90x90 .f32) (k i : Fin 90) : weights2Arr x4 (ix2 k i) = x4 (ix2 i k) := by
  pointwise [weights2Arr]

/-- Entry `k` of the second bias stood in a column. -/
theorem bias2Arr_apply (x5 : FVec Ideal S90 .f32) (k : Fin 90) : shapeCast S90x1 x5 shapeCasts_S90_S90x1 (ix2 k (0 : Fin 1)) = x5 (ix1 k) := by
  pointwise

/-- Entry `k` of the output weights laid in a row. -/
theorem weights3Arr_apply (x6 : FVec Ideal S90x1 .f32) (k : Fin 90) :
    shapeCast S1x90 x6 shapeCasts_S90x1_S1x90 (ix2 (0 : Fin 1) k) = x6 (ix2 k (0 : Fin 1)) := by
  pointwise

/-- The output bias as a one-entry matrix. -/
theorem bias3Arr_apply (x7 : FVec Ideal S1 .f32) : shapeCast S1x1 x7 shapeCasts_S1_S1x1 (ix2 (0 : Fin 1) (0 : Fin 1)) = x7 (ix1 (0 : Fin 1)) := by
  pointwise

/-! ## The arrays when the grid starts -/

variable (m : (ℓ : Loc nD τ sig) → Buf (Elt Ideal) ℓ) (dev : Dev nD)

/-- The first window's array is the transposed data. -/
theorem V_data : V m dev main_call0_v21 = dataArr (m ((dev : Thread nD τ).loc main_arg0)) := by
  simp only [V, V0, hostOps0, List.flatten_cons, List.flatten_nil, List.append_nil, List.cons_append, List.nil_append]
  after_results_simp <;> rfl

/-- The second window's array is the data electrodes' first-layer weights. -/
theorem V_weights1 : V m dev main_call0_v19 = weights1Arr (m ((dev : Thread nD τ).loc main_arg2)) (m ((dev : Thread nD τ).loc main_arg8)) := by
  simp only [V, V0, hostOps0, List.flatten_cons, List.flatten_nil, List.append_nil, List.cons_append, List.nil_append]
  after_results_simp <;> rfl

/-- The third window's array is the controls' share of the first layer with its bias. -/
theorem V_bias1 : V m dev main_call0_v10 = bias1Arr (m ((dev : Thread nD τ).loc main_arg1)) (m ((dev : Thread nD τ).loc main_arg2))
    (m ((dev : Thread nD τ).loc main_arg3)) (m ((dev : Thread nD τ).loc main_arg9)) := by
  simp only [V, V0, hostOps0, List.flatten_cons, List.flatten_nil, List.append_nil, List.cons_append, List.nil_append]
  after_results_simp <;> rfl

/-- The fourth window's array is the second layer's weights, transposed. -/
theorem V_weights2 : V m dev main_call0_v23 = weights2Arr (m ((dev : Thread nD τ).loc main_arg4)) := by
  simp only [V, V0, hostOps0, List.flatten_cons, List.flatten_nil, List.append_nil, List.cons_append, List.nil_append]
  after_results_simp <;> rfl

/-- The fifth window's array is the second layer's bias in a column. -/
theorem V_bias2 : V m dev main_call0_v24 = shapeCast S90x1 (m ((dev : Thread nD τ).loc main_arg5)) shapeCasts_S90_S90x1 := by
  simp only [V, V0, hostOps0, List.flatten_cons, List.flatten_nil, List.append_nil, List.cons_append, List.nil_append]
  after_results_simp <;> rfl

/-- The sixth window's array is the output weights in a row. -/
theorem V_weights3 : V m dev main_call0_v25 = shapeCast S1x90 (m ((dev : Thread nD τ).loc main_arg6)) shapeCasts_S90x1_S1x90 := by
  simp only [V, V0, hostOps0, List.flatten_cons, List.flatten_nil, List.append_nil, List.cons_append, List.nil_append]
  after_results_simp <;> rfl

/-- The seventh window's array is the output bias. -/
theorem V_bias3 : V m dev main_call0_v26 = shapeCast S1x1 (m ((dev : Thread nD τ).loc main_arg7)) shapeCasts_S1_S1x1 := by
  simp only [V, V0, hostOps0, List.flatten_cons, List.flatten_nil, List.append_nil, List.cons_append, List.nil_append]
  after_results_simp <;> rfl

end Cert.Entry

end
-- ==== Proof.Block.lean ====
/-
  What one grid point computes: from the blocks it loads, entry `j` of the row it stores, down to scalars. The two layers
  and the output read as the network's, with each product's factors in the other order.
-/
module

public import proofs.«01_k».proof.Proof.Gen.KernelIdeal.Skeleton
public import proofs.«01_k».proof.Proof.Net

@[expose] public section

set_option maxRecDepth 16384

noncomputable section

namespace Cert.Block

open Idealize.ShloMosaic Idealize.ShloMosaic.TcCoe
open Cert.KernelIdeal Cert.KernelIdeal.Gen

/-- Entry `j` of the stored row: three products with `tanh` between, over the loaded blocks. -/
theorem stored (w1 : FVec Ideal S90x3 .bf16) (xt : FVec Ideal S3x65536 .bf16) (c1 : FVec Ideal S90x1 .f32)
    (w2 : FVec Ideal S90x90 .bf16) (b2 : FVec Ideal S90x1 .f32) (w3 : FVec Ideal S1x90 .f32) (b3 : FVec Ideal S1x1 .f32)
    (j : Fin 65536) :
    k0_pay1 (F := Ideal) w1 xt c1 w2 b2 w3 b3 (ix2 (0 : Fin 1) j)
      = (∑ k : Fin 90, Ideal.tanh ((∑ i : Fin 90, Ideal.tanh ((∑ l : Fin 3, (xt (ix2 l j) : EReal) * w1 (ix2 i l))
          + c1 (ix2 i (0 : Fin 1))) * w2 (ix2 k i)) + b2 (ix2 k (0 : Fin 1))) * w3 (ix2 (0 : Fin 1) k))
        + b3 (ix2 (0 : Fin 1) (0 : Fin 1)) := by
  pointwise! [k0_pay1]

end Cert.Block

end
-- ==== Proof.Final.lean ====
/-
  What the kernel's result array holds at the end: the grid's sixteen blocks put together, and the reshape after them.
-/
module

public import proofs.«01_k».proof.Proof.Entry
public import proofs.«01_k».proof.Proof.Block
public import Idealize.ShloMosaic.Lib.Pipeline.ValueKit

@[expose] public section

set_option maxRecDepth 16384

noncomputable section

namespace Cert.Final

open Idealize.ShloMosaic Idealize.ShloMosaic.TcCoe Idealize.SL.Sem
open Cert.KernelIdeal Cert.KernelIdeal.Gen Cert.Entry

variable (m : (ℓ : Loc nD τ sig) → Buf (Elt Ideal) ℓ) (dev : Dev nD)

/-- The row the launch leaves, from the arrays it starts with: the batch runs along the second axis. -/
def row (xt : FVec Ideal S3x1048576 .bf16) (w1 : FVec Ideal S90x3 .bf16) (c1 : FVec Ideal S90x1 .f32)
    (w2 : FVec Ideal S90x90 .bf16) (b2 : FVec Ideal S90x1 .f32) (w3 : FVec Ideal S1x90 .f32) (b3 : FVec Ideal S1x1 .f32)
    (b : Fin 1048576) : EReal :=
  (∑ k : Fin 90, Ideal.tanh ((∑ i : Fin 90, Ideal.tanh ((∑ l : Fin 3, (xt (ix2 l b) : EReal) * w1 (ix2 i l)) + c1 (ix2 i (0 : Fin 1)))
    * w2 (ix2 k i)) + b2 (ix2 k (0 : Fin 1))) * w3 (ix2 (0 : Fin 1) k)) + b3 (ix2 (0 : Fin 1) (0 : Fin 1))

/-- Where each window's block starts at a grid point: the first and the last move along the batch, the others stay. -/
theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val] := (by decide +kernel : ∀ t : Fin grid0.N, _)

/-- The result's row at the end of the launch, over the arrays at its start. -/
theorem launched : (dats m 0 dev).arrAt 7 (cfgs 0).N = fun i => row (V m dev main_call0_v21) (V m dev main_call0_v19)
    (V m dev main_call0_v10) (V m dev main_call0_v23) (V m dev main_call0_v24) (V m dev main_call0_v25) (V m dev main_call0_v26) (i 1) := by
  refine (dats m 0 dev).arrAt_eq_of_covers 7 _ (by decide +kernel) fun t _ y => ?_
  blk_simp
  rw [after0_7]
  frame_out
  have hy : y = (ix2 (0 : Fin 1) (y 1) : S1x65536.Idx) := by blk_ext
  refine (congrArg (k0_pay1 (iblk m dev 1 t) (iblk m dev 0 t) (iblk m dev 2 t) (iblk m dev 3 t) (iblk m dev 4 t) (iblk m dev 5 t)
    (iblk m dev 6 t)) hy).trans ((Block.stored (iblk m dev 1 t) (iblk m dev 0 t) (iblk m dev 2 t) (iblk m dev 3 t) (iblk m dev 4 t)
    (iblk m dev 5 t) (iblk m dev 6 t) (y 1)).trans ?_)
  unfold row
  blk_point [iblk, idx t]

/-- The row over the staged arguments is the network's output over the arguments. -/
theorem row_args (x0 : FVec Ideal S1048576x3 .f32) (x1 : FVec Ideal S1x4 .f32) (x2 : FVec Ideal S7x90 .f32) (x3 : FVec Ideal S90 .f32)
    (x4 : FVec Ideal S90x90 .f32) (x5 : FVec Ideal S90 .f32) (x6 : FVec Ideal S90x1 .f32) (x7 : FVec Ideal S1 .f32)
    {x8 : IVec S3 32} {x9 : IVec S4 32} {d : Fin 3 → Fin 7} {c : Fin 4 → Fin 7}
    (h8 : ∀ k : Fin 3, x8 (ix1 k) = BitVec.ofNat 32 (d k).val) (h9 : ∀ k : Fin 4, x9 (ix1 k) = BitVec.ofNat 32 (c k).val)
    (b : Fin 1048576) :
    row (dataArr x0) (weights1Arr x2 x8) (bias1Arr x1 x2 x3 x9) (weights2Arr x4) (shapeCast S90x1 x5 shapeCasts_S90_S90x1)
      (shapeCast S1x90 x6 shapeCasts_S90x1_S1x90) (shapeCast S1x1 x7 shapeCasts_S1_S1x1) b = Net.out d c x0 x1 x2 x3 x4 x5 x6 x7 b := by
  unfold row Net.out Net.layer3 Net.layer2 Net.layer1
  simp only [dataArr_apply, weights1Arr_apply x2 h8, bias1Arr_apply x1 x2 x3 h9, weights2Arr_apply, bias2Arr_apply, weights3Arr_apply,
    bias3Arr_apply]

/-- The kernel's result at batch entry `b` is the network's output over the arguments. -/
theorem result {d : Fin 3 → Fin 7} {c : Fin 4 → Fin 7}
    (h8 : ∀ k : Fin 3, (m ((dev : Thread nD τ).loc main_arg8) : IVec S3 32) (ix1 k) = BitVec.ofNat 32 (d k).val)
    (h9 : ∀ k : Fin 4, (m ((dev : Thread nD τ).loc main_arg9) : IVec S4 32) (ix1 k) = BitVec.ofNat 32 (c k).val) (b : Fin 1048576) :
    (Pipeline.afterTail₀ cfgs (dats m) 0 (V0 m) [hostOps1] dev main_v0 : FVec Ideal S1048576x1 .f32) (ix2 b (0 : Fin 1))
      = Net.out d c (m ((dev : Thread nD τ).loc main_arg0)) (m ((dev : Thread nD τ).loc main_arg1)) (m ((dev : Thread nD τ).loc main_arg2))
        (m ((dev : Thread nD τ).loc main_arg3)) (m ((dev : Thread nD τ).loc main_arg4)) (m ((dev : Thread nD τ).loc main_arg5))
        (m ((dev : Thread nD τ).loc main_arg6)) (m ((dev : Thread nD τ).loc main_arg7)) b := by
  have ht : Pipeline.afterTail₀ cfgs (dats m) 0 (V0 m) [hostOps1] dev main_v0
      = shapeCast S1048576x1 (fun i : S1x1048576.Idx => row (V m dev main_call0_v21) (V m dev main_call0_v19) (V m dev main_call0_v10)
        (V m dev main_call0_v23) (V m dev main_call0_v24) (V m dev main_call0_v25) (V m dev main_call0_v26) (i 1))
        shapeCasts_S1x1048576_S1048576x1 := by
    have hw := Pipeline.withArrays_arr spec0 launch0.win.arr_inj dev (V0 m dev) (fun w => (dats m 0 dev).arrAt w (cfgs 0).N) 7
    rw [launched] at hw
    simp only [Pipeline.afterTail₀, hostOps1, List.flatten_cons, List.flatten_nil, List.append_nil, List.cons_append, List.nil_append]
    after_results_simp
    exact congrArg (fun X : FVec Ideal S1x1048576 .f32 => shapeCast S1048576x1 X shapeCasts_S1x1048576_S1048576x1) hw
  refine (congrFun ht (ix2 b (0 : Fin 1))).trans ?_
  pointwise
  rw [V_data, V_weights1, V_bias1, V_weights2, V_bias2, V_weights3, V_bias3]
  exact row_args _ _ _ _ _ _ _ _ h8 h9 b

/-- The kernel runs, and ends with the result array as the operations after the launch leave it and its arguments as they were. -/
theorem run (g : Dev nD → PrngReg) :
    θ_run defs (onTc (τ := τ) (main (F := Ideal))) ⟨m, fun _ => 0, g⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h.2 c).2 main_v0 (Pipeline.mem_restRefs_of main_v0 (by decide) (by decide)), h.1 c⟩)
    (θ_run_and (unchanged m g) (run_main m g))

end Cert.Final

end
-- ==== Proof.lean ====
/-
  The certificate: the kernel and its reference at the ideal instance compute the same network output, whenever the seven
  electrode numbers are the numbers 0 to 6, each once; and every program runs, ends with its arguments as they were, and
  leaves no semaphore counter above zero. The parts: `Proof/Net.lean` is the network as plain mathematics,
  `Proof/Electrodes.lean` what the precondition says, `Proof/Reference.lean` what the reference computes,
  `Proof/Entry.lean`, `Proof/Block.lean` and `Proof/Final.lean` what the kernel computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Electrodes
public import proofs.«01_k».proof.Proof.Reference
public import proofs.«01_k».proof.Proof.Final
public import Idealize.ShloMosaic.Lib.Claim

@[expose] public section

set_option maxRecDepth 16384

noncomputable section

namespace Cert.Proof

open Idealize.ShloMosaic Idealize.ShloMosaic.TcCoe Idealize.SL.Sem

/-- The kernel, as compiled, runs, keeps its arguments and leaves every counter at zero. -/
theorem frame_kernel : Cert.quiescent_Kernel (hKernel := Cert.Kernel.Gen.facts) := fun m g _ => Cert.Kernel.Gen.frame m g

/-- So does the kernel over the extended reals. -/
theorem frame_kernelIdeal : Cert.quiescent_KernelIdeal (hKernelIdeal := Cert.KernelIdeal.Gen.facts) := fun m g _ => Cert.KernelIdeal.Gen.frame m g

/-- So does the reference over the extended reals. -/
theorem frame_reference : Cert.quiescent_ReferenceIdeal (hReferenceIdeal := Cert.ReferenceIdeal.Gen.facts) := by
  intro m g _
  exact (θ_run Cert.ReferenceIdeal.defs _ _).mono (fun _ h => ⟨fun c => (h c).2, sem_eq_zero_of_no_sems rfl _⟩)
    (Cert.ReferenceIdeal.Value.run m g)

/-- The reference's result over the kernel's arguments is the kernel's result, whenever each electrode is named once. -/
theorem same (m : (ℓ : Loc Cert.KernelIdeal.nD Cert.KernelIdeal.τ Cert.KernelIdeal.sig) → Buf (Elt Ideal) ℓ)
    (hpre : Cert.Pre_KernelIdeal_electrodes_once (hPre_electrodes_once := Cert.Electrodes.facts) m) (c : Dev Cert.KernelIdeal.nD) :
    Cert.ReferenceIdeal.Read.val_main_v29 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      = Pipeline.afterTail₀ Cert.KernelIdeal.cfgs (Cert.KernelIdeal.Gen.dats m) 0 (Cert.KernelIdeal.Gen.V0 m)
        [Cert.KernelIdeal.Gen.hostOps1] c Cert.KernelIdeal.main_v0 := by
  obtain ⟨d, e, hinj, h8, h9⟩ := @Cert.Electrodes.meaning _ _ Cert.Electrodes.facts _ _ _ _ _ _ _ _ _ _ (hpre c)
  funext j
  have hj : j = (ix2 (j 0) (0 : Fin 1) : Cert.ReferenceIdeal.S1048576x1.Idx) := by blk_ext
  rw [hj]
  exact (Cert.ReferenceSide.result hinj h8 h9 (j 0)).trans (Cert.Final.result m c h8 h9 (j 0)).symm

/-- The kernel and the reference end with the same result, entry by entry, whenever each electrode is named once. -/
theorem algebraic : Cert.algebraic_KernelIdeal_ReferenceIdeal_pre_electrodes_once (hKernelIdeal := Cert.KernelIdeal.Gen.facts)
    (hReferenceIdeal := Cert.ReferenceIdeal.Gen.facts) (hPre_electrodes_once := Cert.Electrodes.facts) := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v0, ?_, ?_⟩
  · exact Cert.Final.run m g
  · refine (θ_run Cert.ReferenceIdeal.defs _ _).mono (fun r h c => ⟨(h c).1.trans ?_, (h c).2⟩) (Cert.ReferenceIdeal.Value.run m' g')
    refine (Cert.ReferenceIdeal.Read.val_main_v29_eq _ _ _ _ _ _ _ _ _ _).trans ?_
    obtain ⟨a0, a1, a2, a3, a4, a5, a6, a7, a8, a9⟩ := hagree c
    rw [a0, a1, a2, a3, a4, a5, a6, a7, a8, a9]
    exact same m hpre c

/-- Every claim of the certificate. -/
theorem claim : Cert.Claim :=
  ⟨Cert.Kernel.Gen.facts, Cert.KernelIdeal.Gen.facts, Cert.ReferenceIdeal.Gen.facts, Cert.Electrodes.facts,
    frame_kernel, frame_kernelIdeal, fun m g _ => Cert.KernelIdeal.Gen.frame m g, frame_reference, fun m g _ => frame_reference m g trivial,
    trivial, algebraic⟩

end Cert.Proof

end
